-- ==== Defs.lean ====
def Pre_Kernel [hPre_te_ok : Cert.Pre_te_ok.Facts] (m : (ℓ : Loc Cert.Kernel.nD Cert.Kernel.τ Cert.Kernel.sig) → Buf (Elt Bits) ℓ) : Prop :=
  ∀ c : Dev Cert.Kernel.nD,
    (Cert.Pre_te_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_te_ok : Cert.Pre_te_ok.Facts] (m : (ℓ : Loc Cert.KernelIdeal.nD Cert.KernelIdeal.τ Cert.KernelIdeal.sig) → Buf (Elt Ideal) ℓ) : Prop :=
  ∀ c : Dev Cert.KernelIdeal.nD,
    (Cert.Pre_te_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_te_ok : Cert.Pre_te_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_te_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_te_ok : Cert.Pre_te_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_te_ok : Cert.Pre_te_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_te_ok : Cert.Pre_te_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_te_ok : Cert.Pre_te_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_te_ok : Cert.Pre_te_ok.Facts),
    quiescent_Kernel (hKernel := hKernel) (hPre_te_ok := hPre_te_ok)
    ∧ quiescent_KernelIdeal (hKernelIdeal := hKernelIdeal) (hPre_te_ok := hPre_te_ok)
    ∧ quiescent_ReferenceIdeal (hReferenceIdeal := hReferenceIdeal) (hPre_te_ok := hPre_te_ok)
    ∧ preserves_Kernel_KernelIdeal
    ∧ algebraic_KernelIdeal_ReferenceIdeal (hKernelIdeal := hKernelIdeal) (hReferenceIdeal := hReferenceIdeal) (hPre_te_ok := hPre_te_ok)
-- ==== Pre_te_ok.lean ====
abbrev S72 : Shape := ⟨1, ![72]⟩
abbrev S36864x2048 : Shape := ⟨2, ![36864, 2048]⟩
abbrev S8x2048x5632 : Shape := ⟨3, ![8, 2048, 5632]⟩
abbrev S8x5632x2048 : Shape := ⟨3, ![8, 5632, 2048]⟩
abbrev S_ : Shape := ⟨0, ![]⟩

class Facts : Prop where
  bcast_S_S72 : S_.BroadcastsInDim S72 (![] : Fin 0 → Fin S72.rank)
  reducesTo_S72_S_d0 : S72.ReducesTo [0] S_
  h_S_ : 0 < S_.numel

variable [Facts]

def fn {F : FTy → Type} [FloatOps F] (main_arg0 : IVec S72 32) (main_arg1 : IVec S72 32) (main_arg2 : FVec F S36864x2048 .f32) (main_arg3 : FVec F S8x2048x5632 .bf16) (main_arg4 : FVec F S8x2048x5632 .bf16) (main_arg5 : FVec F S8x5632x2048 .bf16) : IVec S_ 1 :=
  let main_c : IVec S_ 32 := constantI S_ 32 0#32
  let main_v0 : IVec S72 32 := broadcastInDim S72 ![] bcast_S_S72 main_c
  let main_v1 : IVec S72 1 := cmpi .sge main_arg0 main_v0
  let main_c_0 : IVec S_ 32 := constantI S_ 32 7#32
  let main_v2 : IVec S72 32 := broadcastInDim S72 ![] bcast_S_S72 main_c_0
  let main_v3 : IVec S72 1 := cmpi .sle main_arg0 main_v2
  let main_v4 : IVec S72 1 := andi main_v1 main_v3
  let main_c_1 : IVec S_ 1 := constantI S_ 1 1#1
  let main_v5 : IVec S_ 1 := (fun x v => Host.reduce IntOp.andi x v reducesTo_S72_S_d0 h_S_) main_v4 main_c_1
  main_v5
-- ==== Kernel.lean ====
abbrev S72 : Shape := ⟨1, ![72]⟩
abbrev S36864x2048 : Shape := ⟨2, ![36864, 2048]⟩
abbrev S8x2048x5632 : Shape := ⟨3, ![8, 2048, 5632]⟩
abbrev S8x5632x2048 : Shape := ⟨3, ![8, 5632, 2048]⟩
abbrev S512x2048 : Shape := ⟨2, ![512, 2048]⟩
abbrev S1x2048x512 : Shape := ⟨3, ![1, 2048, 512]⟩
abbrev S1 : Shape := ⟨1, ![1]⟩
abbrev S1x512x2048 : Shape := ⟨3, ![1, 512, 2048]⟩
abbrev S2048x512 : Shape := ⟨2, ![2048, 512]⟩
abbrev S512x512 : Shape := ⟨2, ![512, 512]⟩

abbrev nBuf : Space → Nat
  | .hbm => 5
  | .vmem => 12
  | .smem => 2
  | _ => 0

abbrev bufTy : (tb : Table) → Fin (tcTables nBuf tb) → BufTy
  | .hbm, ⟨0, _⟩ => ⟨S36864x2048, .f32⟩
  | .hbm, ⟨1, _⟩ => ⟨S8x2048x5632, .bf16⟩
  | .hbm, ⟨2, _⟩ => ⟨S8x2048x5632, .bf16⟩
  | .hbm, ⟨3, _⟩ => ⟨S8x5632x2048, .bf16⟩
  | .hbm, ⟨4, _⟩ => ⟨S36864x2048, .f32⟩
  | .local _ .vmem, ⟨0, _⟩ => ⟨S512x2048, .f32⟩
  | .local _ .vmem, ⟨1, _⟩ => ⟨S512x2048, .f32⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x512x2048, .bf16⟩
  | .local _ .vmem, ⟨7, _⟩ => ⟨S1x512x2048, .bf16⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .f32⟩
  | .local _ .smem, ⟨0, _⟩ => ⟨S72, .i32⟩
  | .local _ .smem, ⟨1, _⟩ => ⟨S72, .i32⟩
  | _, _ => ⟨S36864x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![72, 11], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c10_i32 : BitVec 32 := 10#32
  let v9 : BitVec 1 := Scalar.cmpi .eq arg1 c10_i32
  let v10 : BitVec 32 := Scalar.extui v9
  let c0_i32_2 : BitVec 32 := 0#32
  let v11 : BitVec 1 := Scalar.cmpi .ne v10 c0_i32_2
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let v2 : Index := Scalar.indexCast arg0
  let v3 : BitVec 32 := pf.at 1 (Rect.unit (s := S72) ![v2.toNat] S1.size (k0_off1_inb i)) numel1_S1
  let c1_i32 : BitVec 32 := 1#32
  let v4 : BitVec 1 := Scalar.cmpi .eq v3 c1_i32
  let c10_i32 : BitVec 32 := 10#32
  let v5 : BitVec 32 := Scalar.select v4 arg1 c10_i32
  let c0_i32 : BitVec 32 := 0#32
  let c0_i32_0 : BitVec 32 := 0#32
  ![v1.toNat, c0_i32.toNat, v5.toNat]

def cc0_transform_2 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let v2 : Index := Scalar.indexCast arg0
  let v3 : BitVec 32 := pf.at 1 (Rect.unit (s := S72) ![v2.toNat] S1.size (k0_off1_inb i)) numel1_S1
  let c1_i32 : BitVec 32 := 1#32
  let v4 : BitVec 1 := Scalar.cmpi .eq v3 c1_i32
  let c10_i32 : BitVec 32 := 10#32
  let v5 : BitVec 32 := Scalar.select v4 arg1 c10_i32
  let c0_i32 : BitVec 32 := 0#32
  let c0_i32_0 : BitVec 32 := 0#32
  ![v1.toNat, c0_i32.toNat, v5.toNat]

def cc0_transform_3 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let v2 : Index := Scalar.indexCast arg0
  let v3 : BitVec 32 := pf.at 1 (Rect.unit (s := S72) ![v2.toNat] S1.size (k0_off1_inb i)) numel1_S1
  let c1_i32 : BitVec 32 := 1#32
  let v4 : BitVec 1 := Scalar.cmpi .eq v3 c1_i32
  let c10_i32 : BitVec 32 := 10#32
  let v5 : BitVec 32 := Scalar.select v4 arg1 c10_i32
  let c0_i32 : BitVec 32 := 0#32
  let c0_i32_0 : BitVec 32 := 0#32
  ![v1.toNat, v5.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S72 : Shape := ⟨1, ![72]⟩
abbrev S36864x2048 : Shape := ⟨2, ![36864, 2048]⟩
abbrev S8x2048x5632 : Shape := ⟨3, ![8, 2048, 5632]⟩
abbrev S8x5632x2048 : Shape := ⟨3, ![8, 5632, 2048]⟩
abbrev S72x1 : Shape := ⟨2, ![72, 1]⟩
abbrev S72x512 : Shape := ⟨2, ![72, 512]⟩
abbrev S36864 : Shape := ⟨1, ![36864]⟩
abbrev S8 : Shape := ⟨1, ![8]⟩
abbrev S36864x1 : Shape := ⟨2, ![36864, 1]⟩
abbrev S1x8 : Shape := ⟨2, ![1, 8]⟩
abbrev S36864x8 : Shape := ⟨2, ![36864, 8]⟩
abbrev S_ : Shape := ⟨0, ![]⟩
abbrev S36864x8x5632 : Shape := ⟨3, ![36864, 8, 5632]⟩
abbrev S8x36864x2048 : Shape := ⟨3, ![8, 36864, 2048]⟩
abbrev S8x36864 : Shape := ⟨2, ![8, 36864]⟩
abbrev S8x36864x1 : Shape := ⟨3, ![8, 36864, 1]⟩

abbrev nBuf : Space → Nat
  | .hbm => 47
  | .vmem => 0
  | .smem => 0
  | _ => 0

abbrev bufTy : (tb : Table) → Fin (tcTables nBuf tb) → BufTy
  | .hbm, ⟨0, _⟩ => ⟨S72, .i32⟩
  | .hbm, ⟨1, _⟩ => ⟨S72, .i32⟩
  | .hbm, ⟨2, _⟩ => ⟨S36864x2048, .f32⟩
  | .hbm, ⟨3, _⟩ => ⟨S8x2048x5632, .bf16⟩
  | .hbm, ⟨4, _⟩ => ⟨S8x2048x5632, .bf16⟩
  | .hbm, ⟨5, _⟩ => ⟨S8x5632x2048, .bf16⟩
  | .hbm, ⟨6, _⟩ => ⟨S72x1, .i32⟩
  | .hbm, ⟨7, _⟩ => ⟨S72x512, .i32⟩
  | .hbm, ⟨8, _⟩ => ⟨S36864, .i32⟩
  | .hbm, ⟨9, _⟩ => ⟨S72x1, .i32⟩
  | .hbm, ⟨10, _⟩ => ⟨S72x512, .i32⟩
  | .hbm, ⟨11, _⟩ => ⟨S36864, .i32⟩
  | .hbm, ⟨12, _⟩ => ⟨S8, .i32⟩
  | .hbm, ⟨13, _⟩ => ⟨S36864x1, .i32⟩
  | .hbm, ⟨14, _⟩ => ⟨S1x8, .i32⟩
  | .hbm, ⟨15, _⟩ => ⟨S36864x8, .i32⟩
  | .hbm, ⟨16, _⟩ => ⟨S36864x8, .i32⟩
  | .hbm, ⟨17, _⟩ => ⟨S36864x8, .i1⟩
  | .hbm, ⟨18, _⟩ => ⟨S36864x1, .i32⟩
  | .hbm, ⟨19, _⟩ => ⟨S_, .i32⟩
  | .hbm, ⟨20, _⟩ => ⟨S36864x1, .i32⟩
  | .hbm, ⟨21, _⟩ => ⟨S36864x1, .i1⟩
  | .hbm, ⟨22, _⟩ => ⟨S36864x8, .i1⟩
  | .hbm, ⟨23, _⟩ => ⟨S36864x8, .i1⟩
  | .hbm, ⟨24, _⟩ => ⟨S36864x8, .f32⟩
  | .hbm, ⟨25, _⟩ => ⟨S8x2048x5632, .f32⟩
  | .hbm, ⟨26, _⟩ => ⟨S36864x8x5632, .f32⟩
  | .hbm, ⟨27, _⟩ => ⟨S8x2048x5632, .f32⟩
  | .hbm, ⟨28, _⟩ => ⟨S36864x8x5632, .f32⟩
  | .hbm, ⟨29, _⟩ => ⟨S36864x8x5632, .f32⟩
  | .hbm, ⟨30, _⟩ => ⟨S36864x8x5632, .f32⟩
  | .hbm, ⟨31, _⟩ => ⟨S_, .f32⟩
  | .hbm, ⟨32, _⟩ => ⟨S36864x8x5632, .f32⟩
  | .hbm, ⟨33, _⟩ => ⟨S36864x8x5632, .f32⟩
  | .hbm, ⟨34, _⟩ => ⟨S_, .f32⟩
  | .hbm, ⟨35, _⟩ => ⟨S36864x8x5632, .f32⟩
  | .hbm, ⟨36, _⟩ => ⟨S36864x8x5632, .f32⟩
  | .hbm, ⟨37, _⟩ => ⟨S36864x8x5632, .f32⟩
  | .hbm, ⟨38, _⟩ => ⟨S36864x8x5632, .f32⟩
  | .hbm, ⟨39, _⟩ => ⟨S8x5632x2048, .f32⟩
  | .hbm, ⟨40, _⟩ => ⟨S8x36864x2048, .f32⟩
  | .hbm, ⟨41, _⟩ => ⟨S8x36864, .f32⟩
  | .hbm, ⟨42, _⟩ => ⟨S8x36864x1, .f32⟩
  | .hbm, ⟨43, _⟩ => ⟨S8x36864x2048, .f32⟩
  | .hbm, ⟨44, _⟩ => ⟨S8x36864x2048, .f32⟩
  | .hbm, ⟨45, _⟩ => ⟨S_, .f32⟩
  | .hbm, ⟨46, _⟩ => ⟨S36864x2048, .f32⟩
  | _, _ => ⟨S72, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Proof.Grouped.Step.lean ====
module

public import proofs.«01_k».proof.Proof.Gen.KernelIdeal.Frame.Runs
public import Idealize.ShloMosaic.Lib.VecWindow

@[expose] public section

set_option maxRecDepth 16384

noncomputable section

namespace Cert.KernelIdeal.Grouped

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The second table's word for the tile of a grid point: whether the tile holds rows of some expert. -/
abbrev vword {c : Dev nD} (i : grid0.Coords) (xt1 : TbBuf0 (F := F) c tbM0_1) : BitVec 32 :=
  tbM0_1.view.readAt (Elt F) (Rect.unit (s := S72) (k0_off1 i) S1.size (k0_off1_inb i)).toLoadRect xt1 (Shape.Idx.first (numel1_S1.symm ▸ Nat.one_pos))

/-- What the scratch of rounded rows holds after a point: the tile's rows rounded at a valid tile's first chunk,
    otherwise what it held. -/
def nextX (i : grid0.Coords) (v : BitVec 32) (x0 : Vec F S512x2048 .f32) (xs0 : Vec F S512x2048 .bf16) : Vec F S512x2048 .bf16 :=
  if cond0_0 i v then k0_pay2 x0 else xs0

/-- What the accumulator holds after a point of a grid: cleared at a valid tile's first chunk, and a valid tile's
    chunk added. -/
def nextA (i : grid0.Coords) (v : BitVec 32) (x0 : Vec F S512x2048 .f32) (x1 x2 : Vec F S1x2048x512 .bf16) (x3 : Vec F S1x512x2048 .bf16)
    (xs0 : Vec F S512x2048 .bf16) (xs1 : Vec F S512x2048 .f32) : Vec F S512x2048 .f32 :=
  if cond0_1 i v then k0_pay3 (nextX i v x0 xs0) x1 x2 (if cond0_0 i v then k0_pay1 else xs1) x3
  else (if cond0_0 i v then k0_pay1 else xs1)

/-- What the output block holds after a point: the accumulator (or zeros at a tile without rows) at a tile's last
    chunk, otherwise what it held. -/
def nextO (i : grid0.Coords) (v : BitVec 32) (x0 : Vec F S512x2048 .f32) (x1 x2 : Vec F S1x2048x512 .bf16) (x3 : Vec F S1x512x2048 .bf16)
    (xs0 : Vec F S512x2048 .bf16) (xs1 x4 : Vec F S512x2048 .f32) : Vec F S512x2048 .f32 :=
  if cond0_2 i then k0_pay4 v (nextA i v x0 x1 x2 x3 xs0 xs1) else x4

/-- A load of a whole block reads the block, and a load after a store of a whole block reads what was stored. -/
theorem ld2_f32 (v : View sig .tc .vmem S512x2048 .f32) (f : v.ty.Contents (Elt F)) :
    v.readAt (Elt F) (Rect.unit (s := S512x2048) ![0, 0] ![512, 2048] inb_S512x2048_S512x2048_0_0).toLoadRect f = v.read (Elt F) f :=
  View.readAt_full v f _
theorem ld2_bf16 (v : View sig .tc .vmem S512x2048 .bf16) (f : v.ty.Contents (Elt F)) :
    v.readAt (Elt F) (Rect.unit (s := S512x2048) ![0, 0] ![512, 2048] inb_S512x2048_S512x2048_0_0).toLoadRect f = v.read (Elt F) f :=
  View.readAt_full v f _
theorem ld3a (v : View sig .tc .vmem S1x2048x512 .bf16) (f : v.ty.Contents (Elt F)) :
    v.readAt (Elt F) (Rect.unit (s := S1x2048x512) ![0, 0, 0] ![1, 2048, 512] inb_S1x2048x512_S1x2048x512_0_0_0).toLoadRect f = v.read (Elt F) f :=
  View.readAt_full v f _
theorem ld3b (v : View sig .tc .vmem S1x512x2048 .bf16) (f : v.ty.Contents (Elt F)) :
    v.readAt (Elt F) (Rect.unit (s := S1x512x2048) ![0, 0, 0] ![1, 512, 2048] inb_S1x512x2048_S1x512x2048_0_0_0).toLoadRect f = v.read (Elt F) f :=
  View.readAt_full v f _

theorem wr2 (v : View sig .tc .vmem S512x2048 .f32) (f : v.ty.Contents (Elt F)) (w : Vec F S512x2048 .f32) (L) :
    v.read (Elt F) (v.writes (Elt F) f (⟨Rect.unit (s := S512x2048) ![0, 0] ![512, 2048] inb_S512x2048_S512x2048_0_0, w⟩ :: L)) = w :=
  View.read_writes_full v f _ w L
theorem cov2 (v : View sig .tc .vmem S512x2048 .f32) (w : Vec F S512x2048 .f32) (L) :
    v.readCov (⟨Rect.unit (s := S512x2048) ![0, 0] ![512, 2048] inb_S512x2048_S512x2048_0_0, w⟩ :: L) (Rect.unit (s := S512x2048) ![0, 0] ![512, 2048] inb_S512x2048_S512x2048_0_0).toLoadRect = w :=
  View.readCov_full v _ _ w L

theorem wr2b (v : View sig .tc .vmem S512x2048 .bf16) (f : v.ty.Contents (Elt F)) (w : Vec F S512x2048 .bf16) (L) :
    v.read (Elt F) (v.writes (Elt F) f (⟨Rect.unit (s := S512x2048) ![0, 0] ![512, 2048] inb_S512x2048_S512x2048_0_0, w⟩ :: L)) = w :=
  View.read_writes_full v f _ w L
theorem cov2b (v : View sig .tc .vmem S512x2048 .bf16) (w : Vec F S512x2048 .bf16) (L) :
    v.readCov (⟨Rect.unit (s := S512x2048) ![0, 0] ![512, 2048] inb_S512x2048_S512x2048_0_0, w⟩ :: L) (Rect.unit (s := S512x2048) ![0, 0] ![512, 2048] inb_S512x2048_S512x2048_0_0).toLoadRect = w :=
  View.readCov_full v _ _ w L

set_option maxHeartbeats 4000000 in
/-- One point of the grid: from whole memrefs at known contents the body runs to the same memrefs at the contents
    `nextO`, `nextX` and `nextA` name, its inputs and tables as they were. -/
theorem step (c : Dev nD) (i : grid0.Coords) (arg4 : Memref sig .tc .vmem S512x2048 .f32) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x512x2048 .bf16) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .f32) (harg10 : arg10.IsWhole)
    (x0 : Vec F S512x2048 .f32) (x1 : Vec F S1x2048x512 .bf16) (x2 : Vec F S1x2048x512 .bf16) (x3 : Vec F S1x512x2048 .bf16) (xt0 : TbBuf0 (F := F) c tbM0_0) (xt1 : TbBuf0 (F := F) c tbM0_1) (xs0 : Vec F S512x2048 .bf16) (xs1 x4 : Vec F S512x2048 .f32)
    (E : Set ℕ) (K : PUnit → sProp 𝕄) :
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare xs0 ∗ owns (c : Thread nD τ) arg10 fullShare xs1 ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare (nextO i (vword i xt1) x0 x1 x2 x3 xs0 xs1 x4) ∗ owns (c : Thread nD τ) arg9 fullShare (nextX i (vword i xt1) x0 xs0) ∗ owns (c : Thread nD τ) arg10 fullShare (nextA i (vword i xt1) x0 x1 x2 x3 xs0 xs1) ∗ tbPt0 c tbM0_0 xt0 ∗ tbPt0 c tbM0_1 xt1) -∗ K ⟨⟩))
          ⊢ wp frame (wpE (defs₀ (F := F)) Variants.none c none) E (cc0_ffn_grouped i tbM0_0 htbM0_0 tbM0_1 htbM0_1 arg4 harg4 arg5 harg5 arg6 harg6 arg7 harg7 arg8 harg8 arg9 harg9 arg10 harg10) K := by
  simp only [cc0_ffn_grouped_eq_skeleton]; unfold cc0_ffn_grouped_skel
  unfold nextO nextA nextX
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, HT0, HT1, Hk⟩
  by_cases hc0 : cond0_0 i (vword i xt1) <;> by_cases hc1 : cond0_1 i (vword i xt1) <;> by_cases hc2 : cond0_2 i
  all_goals
    first | simp only [if_pos hc0] | simp only [if_neg hc0]
    first | simp only [if_pos hc1] | simp only [if_neg hc1]
    first | simp only [if_pos hc2] | simp only [if_neg hc2]
    sl_exec (disch := first | sl_exact hc0 | sl_exact hc1 | sl_exact hc2)
    sl_step
    iapply Hk
    isplitl [H0]
    · iexists _; isplitr
      swap; · iexact H0
      ipureintro; exact hf0
    isplitl [H1]
    · iexists _; isplitr
      swap; · iexact H1
      ipureintro; exact hf1
    isplitl [H2]
    · iexists _; isplitr
      swap; · iexact H2
      ipureintro; exact hf2
    isplitl [H3]
    · iexists _; isplitr
      swap; · iexact H3
      ipureintro; exact hf3
    isplitl [H4]
    · iexists _; isplitr
      swap; · iexact H4
      ipureintro
      try simp only [if_neg hc0]
      try sl_unfold_run_names
      try simp only [wr2, wr2b, cov2, cov2b, View.readCov_full, View.readAt_full, View.read_writes_full, ld2_f32, ld2_bf16, ld3a, ld3b, hf0, hf1, hf2, hf3, hf4, hfs0, hfs1]
    isplitl [HS0]
    · iexists _; isplitr
      swap; · iexact HS0
      ipureintro
      try simp only [if_neg hc0]
      try sl_unfold_run_names
      try simp only [wr2, wr2b, cov2, cov2b, View.readCov_full, View.readAt_full, View.read_writes_full, ld2_f32, ld2_bf16, ld3a, ld3b, hf0, hf1, hf2, hf3, hf4, hfs0, hfs1]
    isplitl [HS1]
    · iexists _; isplitr
      swap; · iexact HS1
      ipureintro
      try simp only [if_neg hc0]
      try sl_unfold_run_names
      try simp only [wr2, wr2b, cov2, cov2b, View.readCov_full, View.readAt_full, View.read_writes_full, ld2_f32, ld2_bf16, ld3a, ld3b, hf0, hf1, hf2, hf3, hf4, hfs0, hfs1]
    isplitl [HT0]; · iexact HT0
    iexact HT1

end Cert.KernelIdeal.Grouped

end
-- ==== Proof.Grouped.Tables.lean ====
module

public import proofs.«01_k».proof.Proof.Grouped.Step
public import proofs.«01_k».proof.Defs
public import proofs.«01_k».proof.Proof.Gen.Pre_te_ok
public import Idealize.ShloMosaic.Lib.ReduceAll

@[expose] public section

set_option maxRecDepth 16384

noncomputable section

namespace Cert.KernelIdeal.Grouped

open Cert.KernelIdeal.Gen
open Idealize.ShloMosaic Idealize.ShloMosaic.TcCoe Idealize.SL Idealize.SL.Sem

variable {F : FTy → Type} [FloatOps F]

/-- The table entry of a tile. -/
def tidx (T : ℕ) (h : T < 72) : S72.Idx := fun (a : Fin 1) => ⟨T, match a with | ⟨0, _⟩ => h⟩

/-- The two coordinates of a grid point: the tile of rows and the chunk of hidden columns. -/
def fst (i : grid0.Coords) : Fin 72 := i 0
def snd (i : grid0.Coords) : Fin 11 := i 1

theorem off1_eq : ∀ i : grid0.Coords, k0_off1 i = ![(i 0).val] := by decide +kernel

/-- The word the body loads at a grid point is its tile's entry of the second table. -/
theorem vword_eq {c : Dev nD} (i : grid0.Coords) (x : TbBuf0 (F := F) c tbM0_1) :
    vword i x = (show S72.Idx → BitVec 32 from x) (tidx (fst i).val (fst i).isLt) := by
  unfold vword
  rw [View.readAt_apply]
  refine congrArg (show S72.Idx → BitVec 32 from x) (funext fun (a : Fin 1) => Fin.ext ?_)
  have e := congrFun (off1_eq i) a
  obtain rfl : a = 0 := Subsingleton.elim _ _
  show k0_off1 i 0 + 1 * _ = (i 0).val
  rw [e]
  show (i 0).val + 1 * 0 = (i 0).val
  omega

/-- A coordinate of a point of the grid: the tile, and the chunk. -/
theorem coords_tile (t : Fin grid0.N) : (grid0.coords t 0).val = t.val / 11 := by
  have hN : t.val < 792 := lt_of_lt_of_eq t.isLt N_0
  rw [Pipeline.Grid.coords_val (S := 11) (B := 72) t 0 (by decide) rfl]; omega
theorem coords_chunk (t : Fin grid0.N) : (grid0.coords t 1).val = t.val % 11 := by
  rw [Pipeline.Grid.coords_val (S := 1) (B := 11) t 1 (by decide) rfl]; omega

theorem cmpi_ne (v : BitVec 32) (h : ¬v = 1#32) : Scalar.cmpi .eq v 1#32 = 0#1 := by
  have hb : (v == 1#32) = false := by simpa using h
  show BitVec.ofBool (v == 1#32) = 0#1
  rw [hb]; rfl

/-- The body's second condition: the tile is valid. -/
theorem cond1_iff (i : grid0.Coords) (v : BitVec 32) : cond0_1 i v ↔ v = 1#32 := by
  unfold cond0_1
  by_cases h : v = 1#32
  · subst h; simp only [iff_true]; decide
  · have e : Scalar.cmpi .eq v 1#32 = 0#1 := cmpi_ne v h
    rw [e]; simp only [h, iff_false]; decide

theorem zero_iff : ∀ f : Fin 11, Scalar.cmpi .eq (BitVec.ofNat 32 f.val) 0#32 = (if f.val = 0 then 1#1 else 0#1) := by decide

/-- The body's first condition: the tile is valid and the chunk its first. -/
theorem cond0_iff (i : grid0.Coords) (v : BitVec 32) : cond0_0 i v ↔ v = 1#32 ∧ (i 1).val = 0 := by
  unfold cond0_0
  have hz := zero_iff (i 1)
  rw [hz]
  by_cases h : v = 1#32
  · subst h
    by_cases hf : (i 1).val = 0
    · simp only [hf, if_true, and_self, iff_true]; decide
    · simp only [hf, if_false, and_false, iff_false]; decide
  · have e : Scalar.cmpi .eq v 1#32 = 0#1 := cmpi_ne v h
    rw [e]; simp only [h, false_and, iff_false]
    by_cases hf : (i 1).val = 0
    · simp only [hf, if_true]; decide
    · simp only [hf, if_false]; decide

/-- The chunk of the weights a point reads: its own at a valid tile, the last at a tile without rows. -/
def chunk (v : BitVec 32) (f : ℕ) : ℕ := if v = 1#32 then f else 10

theorem sel_chunk (v : BitVec 32) (f : Fin 11) :
    (Scalar.select (Scalar.cmpi .eq v 1#32) (BitVec.ofNat 32 f.val) 10#32).toNat = chunk v f.val := by
  unfold chunk Scalar.select
  by_cases h : v = 1#32
  · subst h
    rw [if_pos (by decide), if_pos rfl]
    have := f.isLt
    rw [BitVec.toNat_ofNat]; omega
  · have e : Scalar.cmpi .eq v 1#32 = 0#1 := cmpi_ne v h
    rw [e, if_neg (by decide), if_neg h]; rfl

/-- The two tables at a tile. -/
def teAt (pf : pre0.Contents (Elt F)) (T : ℕ) (h : T < 72) : BitVec 32 := (show S72.Idx → BitVec 32 from pf 0) (tidx T h)
def tvAt (pf : pre0.Contents (Elt F)) (T : ℕ) (h : T < 72) : BitVec 32 := (show S72.Idx → BitVec 32 from pf 1) (tidx T h)

theorem at_eq0 (pf : pre0.Contents (Elt F)) (i : grid0.Coords) (n : S1.numel = 1)
    (h : ∀ i : grid0.Coords, ∀ a, (k0_off1 i) a + S1.size a ≤ S72.size a) :
    pf.at 0 (Rect.unit (s := S72) (k0_off1 i) S1.size (h i)) n = teAt pf (fst i).val (fst i).isLt := by
  refine congrArg (show S72.Idx → BitVec 32 from pf 0) (funext fun (a : Fin 1) => Fin.ext ?_)
  have e := congrFun (off1_eq i) a
  obtain rfl : a = 0 := Subsingleton.elim _ _
  show k0_off1 i 0 + 1 * _ = (i 0).val
  rw [e]
  show (i 0).val + 1 * 0 = (i 0).val
  omega
theorem at_eq1 (pf : pre0.Contents (Elt F)) (i : grid0.Coords) (n : S1.numel = 1)
    (h : ∀ i : grid0.Coords, ∀ a, (k0_off1 i) a + S1.size a ≤ S72.size a) :
    pf.at 1 (Rect.unit (s := S72) (k0_off1 i) S1.size (h i)) n = tvAt pf (fst i).val (fst i).isLt := by
  refine congrArg (show S72.Idx → BitVec 32 from pf 1) (funext fun (a : Fin 1) => Fin.ext ?_)
  have e := congrFun (off1_eq i) a
  obtain rfl : a = 0 := Subsingleton.elim _ _
  show k0_off1 i 0 + 1 * _ = (i 0).val
  rw [e]
  show (i 0).val + 1 * 0 = (i 0).val
  omega

/-- The index maps of the three weight windows: the tile's expert and the point's chunk. -/
theorem tr1_eq (pf : pre0.Contents (Elt F)) (i : grid0.Coords) (h n) :
    cc0_transform_1 h n pf i = ![(teAt pf (fst i).val (fst i).isLt).toNat, 0, chunk (tvAt pf (fst i).val (fst i).isLt) (snd i).val] :=
  (show cc0_transform_1 h n pf i = ![(pf.at 0 (Rect.unit (s := S72) (k0_off1 i) S1.size (h i)) n).toNat, 0, (Scalar.select (Scalar.cmpi .eq (pf.at 1 (Rect.unit (s := S72) (k0_off1 i) S1.size (h i)) n) 1#32) (BitVec.ofNat 32 (snd i).val) 10#32).toNat] from rfl).trans
    (by rw [at_eq0 pf i n h, at_eq1 pf i n h, sel_chunk])
theorem tr2_eq (pf : pre0.Contents (Elt F)) (i : grid0.Coords) (h n) :
    cc0_transform_2 h n pf i = ![(teAt pf (fst i).val (fst i).isLt).toNat, 0, chunk (tvAt pf (fst i).val (fst i).isLt) (snd i).val] :=
  (show cc0_transform_2 h n pf i = ![(pf.at 0 (Rect.unit (s := S72) (k0_off1 i) S1.size (h i)) n).toNat, 0, (Scalar.select (Scalar.cmpi .eq (pf.at 1 (Rect.unit (s := S72) (k0_off1 i) S1.size (h i)) n) 1#32) (BitVec.ofNat 32 (snd i).val) 10#32).toNat] from rfl).trans
    (by rw [at_eq0 pf i n h, at_eq1 pf i n h, sel_chunk])
theorem tr3_eq (pf : pre0.Contents (Elt F)) (i : grid0.Coords) (h n) :
    cc0_transform_3 h n pf i = ![(teAt pf (fst i).val (fst i).isLt).toNat, chunk (tvAt pf (fst i).val (fst i).isLt) (snd i).val, 0] :=
  (show cc0_transform_3 h n pf i = ![(pf.at 0 (Rect.unit (s := S72) (k0_off1 i) S1.size (h i)) n).toNat, (Scalar.select (Scalar.cmpi .eq (pf.at 1 (Rect.unit (s := S72) (k0_off1 i) S1.size (h i)) n) 1#32) (BitVec.ofNat 32 (snd i).val) 10#32).toNat, 0] from rfl).trans
    (by rw [at_eq0 pf i n h, at_eq1 pf i n h, sel_chunk])

theorem chunk_lt (v : BitVec 32) (f : Fin 11) : chunk v f.val < 11 := by
  unfold chunk; have := f.isLt; split <;> omega

/-- Tables whose experts are all below eight are admissible: every weight block lies inside its array. -/
theorem ok_of_lt (pf : pre0.Contents (Elt F)) (hte : ∀ T h, (teAt pf T h).toNat < 8) : ok0 pf := by
  have hb (i : grid0.Coords) := hte (fst i).val (fst i).isLt
  have hc (i : grid0.Coords) := chunk_lt (tvAt pf (fst i).val (fst i).isLt) (snd i)
  have b1 (i : grid0.Coords) (h n) (a : Fin 3) : (cc0_transform_1 h n pf i a + 1) * S1x2048x512.size a ≤ S8x2048x5632.size a := by
    rw [tr1_eq]; have h1 := hb i; have h2 := hc i
    match a with
    | 0 => show (_ + 1) * 1 ≤ 8; exact by simpa using h1
    | 1 => exact Nat.le_refl 2048
    | 2 => show (chunk _ _ + 1) * 512 ≤ 5632; omega
  have b2 (i : grid0.Coords) (h n) (a : Fin 3) : (cc0_transform_2 h n pf i a + 1) * S1x2048x512.size a ≤ S8x2048x5632.size a := by
    rw [tr2_eq]; have h1 := hb i; have h2 := hc i
    match a with
    | 0 => show (_ + 1) * 1 ≤ 8; exact by simpa using h1
    | 1 => exact Nat.le_refl 2048
    | 2 => show (chunk _ _ + 1) * 512 ≤ 5632; omega
  have b3 (i : grid0.Coords) (h n) (a : Fin 3) : (cc0_transform_3 h n pf i a + 1) * S1x512x2048.size a ≤ S8x5632x2048.size a := by
    rw [tr3_eq]; have h1 := hb i; have h2 := hc i
    match a with
    | 0 => show (_ + 1) * 1 ≤ 8; exact by simpa using h1
    | 1 => show (chunk _ _ + 1) * 512 ≤ 5632; omega
    | 2 => exact Nat.le_refl 2048
  exact ⟨fun i => ⟨fun a => b1 i _ _ a, .inr (Affine.block_words_dvd (of_decide_eq_true rfl) (by decide))⟩,
    fun i => ⟨fun a => b2 i _ _ a, .inr (Affine.block_words_dvd (of_decide_eq_true rfl) (by decide))⟩,
    fun i => ⟨fun a => b3 i _ _ a, .inr (Affine.block_words_dvd (of_decide_eq_true rfl) (by decide))⟩⟩

/-- What the precondition says of the first table: every entry, read as a natural number, is below eight. -/
theorem te_lt [Cert.Pre_te_ok.Facts] (a0 a1 : IVec S72 32) (a2 : FVec F S36864x2048 .f32) (a3 a4 : FVec F S8x2048x5632 .bf16) (a5 : FVec F S8x5632x2048 .bf16)
    (h : ∀ j, Cert.Pre_te_ok.fn (F := F) a0 a1 a2 a3 a4 a5 j = 1#1) (i : S72.Idx) : (a0 i).toNat < 8 := by
  have andi_one (a b : BitVec 1) : IntOp.andi a b = 1#1 ↔ a = 1#1 ∧ b = 1#1 := by revert a b; decide
  have hs : Subsingleton Cert.Pre_te_ok.S_.Idx := ⟨fun a b => funext fun k => k.elim0⟩
  have e := Host.reduce_andi_all _ _ _ _ (Shape.Idx.first Cert.Pre_te_ok.Facts.h_S_) (h _) i
  rw [show (andi _ _ : IVec S72 1) i = IntOp.andi _ _ from rfl, andi_one] at e
  obtain ⟨e0, e1⟩ := e
  have e0' : IntOp.cmpi .sge (a0 i) 0#32 = 1#1 := e0
  have e1' : IntOp.cmpi .sle (a0 i) 7#32 = 1#1 := e1
  have l0 : 0 ≤ (a0 i).toInt := by
    by_contra hn
    have hd : decide (0 ≤ (a0 i).toInt) = false := by simpa using hn
    have e2 : BitVec.ofBool (decide (0 ≤ (a0 i).toInt)) = 1#1 := e0'
    rw [hd] at e2; exact absurd e2 (by decide)
  have l1 : (a0 i).toInt ≤ 7 := by
    by_contra hn
    have hd : decide ((a0 i).toInt ≤ 7) = false := by simpa using hn
    have e2 : BitVec.ofBool (decide ((a0 i).toInt ≤ 7)) = 1#1 := e1'
    rw [hd] at e2; exact absurd e2 (by decide)
  rw [BitVec.toInt_eq_toNat_cond] at l0 l1
  split at l0 <;> simp_all <;> omega

end Cert.KernelIdeal.Grouped

end
-- ==== Proof.Grouped.Body.lean ====
module

public import proofs.«01_k».proof.Proof.Grouped.Tables
public import Idealize.ShloMosaic.Lib.Claim

@[expose] public section

set_option maxRecDepth 16384

noncomputable section

namespace Cert.KernelIdeal.Grouped

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a valid tile's points compute -/

/-- The blocks a point reads, at their types: the tile's rows, and its expert's chunk of the three weights. -/
def bx (hO : Ok m) (c : Dev nD) (t : Fin (cfgM m hO).N) : Vec F S512x2048 .f32 := iblk m hO c 0 t
def bg (hO : Ok m) (c : Dev nD) (t : Fin (cfgM m hO).N) : Vec F S1x2048x512 .bf16 := iblk m hO c 1 t
def bu (hO : Ok m) (c : Dev nD) (t : Fin (cfgM m hO).N) : Vec F S1x2048x512 .bf16 := iblk m hO c 2 t
def bd (hO : Ok m) (c : Dev nD) (t : Fin (cfgM m hO).N) : Vec F S1x512x2048 .bf16 := iblk m hO c 3 t

theorem tile_lt {n : ℕ} (hn : n < 792) : n / 11 < 72 := by omega

/-- Whether the tile of point `n` is valid: the second table's word. -/
def vAt (n : ℕ) (hn : n < 792) : BitVec 32 := tvAt (tbl m) (n / 11) (tile_lt hn)

theorem vAt_succ (k : ℕ) (hk : k + 1 < 792) (h : (k + 1) % 11 ≠ 0) : vAt m (k + 1) hk = vAt m k (by omega) := by
  unfold vAt
  congr 1
  omega

/-- The rounded rows and the accumulator after point `n`, were the tiles all valid: at a tile's first chunk its rows
    rounded and its first chunk added to zeros, at a later chunk that chunk added to what the point before left. -/
def both (hO : Ok m) (c : Dev nD) : (n : ℕ) → n < (cfgM m hO).N → Vec F S512x2048 .bf16 × Vec F S512x2048 .f32
  | 0, h => (k0_pay2 (bx m hO c ⟨0, h⟩), k0_pay3 (k0_pay2 (bx m hO c ⟨0, h⟩)) (bg m hO c ⟨0, h⟩) (bu m hO c ⟨0, h⟩) k0_pay1 (bd m hO c ⟨0, h⟩))
  | n + 1, h =>
    if (n + 1) % 11 = 0 then
      (k0_pay2 (bx m hO c ⟨n + 1, h⟩), k0_pay3 (k0_pay2 (bx m hO c ⟨n + 1, h⟩)) (bg m hO c ⟨n + 1, h⟩) (bu m hO c ⟨n + 1, h⟩) k0_pay1 (bd m hO c ⟨n + 1, h⟩))
    else
      ((both hO c n (Nat.lt_of_succ_lt h)).1,
        k0_pay3 (both hO c n (Nat.lt_of_succ_lt h)).1 (bg m hO c ⟨n + 1, h⟩) (bu m hO c ⟨n + 1, h⟩) (both hO c n (Nat.lt_of_succ_lt h)).2 (bd m hO c ⟨n + 1, h⟩))

theorem both_first (hO : Ok m) (c : Dev nD) (t : Fin (cfgM m hO).N) (h : t.val % 11 = 0) :
    both m hO c t.val t.isLt = (k0_pay2 (bx m hO c t), k0_pay3 (k0_pay2 (bx m hO c t)) (bg m hO c t) (bu m hO c t) k0_pay1 (bd m hO c t)) := by
  obtain ⟨n, hn⟩ := t
  cases n with
  | zero => rfl
  | succ k => unfold both; rw [if_pos h]

theorem both_next (hO : Ok m) (c : Dev nD) (k : ℕ) (hk : k + 1 < (cfgM m hO).N) (h : (k + 1) % 11 ≠ 0) :
    both m hO c (k + 1) hk = ((both m hO c k (Nat.lt_of_succ_lt hk)).1,
      k0_pay3 (both m hO c k (Nat.lt_of_succ_lt hk)).1 (bg m hO c ⟨k + 1, hk⟩) (bu m hO c ⟨k + 1, hk⟩) (both m hO c k (Nat.lt_of_succ_lt hk)).2 (bd m hO c ⟨k + 1, hk⟩)) := by
  rw [both, if_neg h]

theorem N_eq (hO : Ok m) : (cfgM m hO).N = 792 := N_0

/-- What is known of the scratch before point `n`: after a point of a valid tile it holds what that point computed. -/
def Inv (hO : Ok m) (c : Dev nD) (n : ℕ) (xs0 : Vec F S512x2048 .bf16) (xs1 : Vec F S512x2048 .f32) : Prop :=
  ∀ k, (hk : k < (cfgM m hO).N) → n = k + 1 → vAt m k (lt_of_lt_of_eq hk (N_eq m hO)) = 1#32 → (xs0, xs1) = both m hO c k hk

/-- What a point's word is: the second table's at its tile. -/
theorem vword_at (hO : Ok m) (c : Dev nD) (t : Fin (cfgM m hO).N) :
    vword (c := c) (grid0.coords t) (show TbBuf0 (F := F) c tbM0_1 from tbl m 1) = vAt m t.val (lt_of_lt_of_eq t.isLt (N_eq m hO)) := by
  refine (vword_eq (c := c) (grid0.coords t) _).trans ?_
  unfold vAt tvAt
  refine congrArg (show S72.Idx → BitVec 32 from tbl m 1) ?_
  exact funext fun (a : Fin 1) => Fin.ext (coords_tile t)

/-- One point of the grid, its word and its output block under the names given. -/
theorem step_to (c : Dev nD) (i : grid0.Coords) (arg4 : Memref sig .tc .vmem S512x2048 .f32) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x512x2048 .bf16) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .f32) (harg10 : arg10.IsWhole)
    (x0 : Vec F S512x2048 .f32) (x1 : Vec F S1x2048x512 .bf16) (x2 : Vec F S1x2048x512 .bf16) (x3 : Vec F S1x512x2048 .bf16) (xt0 : TbBuf0 (F := F) c tbM0_0) (xt1 : TbBuf0 (F := F) c tbM0_1) (xs0 : Vec F S512x2048 .bf16) (xs1 x4 : Vec F S512x2048 .f32)
    (v : BitVec 32) (hv : vword i xt1 = v) (o : Vec F S512x2048 .f32) (ho : nextO i v x0 x1 x2 x3 xs0 xs1 x4 = o) (K : PUnit → sProp 𝕄) :
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare xs0 ∗ owns (c : Thread nD τ) arg10 fullShare xs1 ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare o ∗ owns (c : Thread nD τ) arg9 fullShare (nextX i v x0 xs0) ∗ owns (c : Thread nD τ) arg10 fullShare (nextA i v x0 x1 x2 x3 xs0 xs1) ∗ tbPt0 c tbM0_0 xt0 ∗ tbPt0 c tbM0_1 xt1) -∗ K ⟨⟩))
          ⊢ wp frame (wpE (defs₀ (F := F)) Variants.none c none) Set.univ (cc0_ffn_grouped i tbM0_0 htbM0_0 tbM0_1 htbM0_1 arg4 harg4 arg5 harg5 arg6 harg6 arg7 harg7 arg8 harg8 arg9 harg9 arg10 harg10) K := by
  subst hv; subst ho
  exact step c i arg4 harg4 arg5 harg5 arg6 harg6 arg7 harg7 arg8 harg8 arg9 harg9 arg10 harg10 x0 x1 x2 x3 xt0 xt1 xs0 xs1 x4 Set.univ K

/-- A tile without rows gets zeros, whatever the accumulator holds. -/
theorem pay4_invalid (v : BitVec 32) (h : ¬v = 1#32) (a b : Vec F S512x2048 .f32) : k0_pay4 v a = k0_pay4 v b := by
  have e (x : Vec F S512x2048 .f32) : k0_pay4 v x = broadcast S512x2048 (Scalar.ofBits .f32 0x00000000#32) := by
    show Scalar.select (Scalar.cmpi .eq v 1#32) x _ = _
    rw [cmpi_ne v h]
    exact if_neg (by decide)
  rw [e, e]

section Step
variable (hO : Ok m) (c : Dev nD) (t : Fin (cfgM m hO).N) (xs0 : Vec F S512x2048 .bf16) (xs1 : Vec F S512x2048 .f32)

/-- At a valid tile a point turns what is known of the scratch before it into what it computes. -/
theorem next_valid (hI : Inv m hO c t.val xs0 xs1) (hv : vAt m t.val (lt_of_lt_of_eq t.isLt (N_eq m hO)) = 1#32) :
    (nextX (grid0.coords t) 1#32 (bx m hO c t) xs0, nextA (grid0.coords t) 1#32 (bx m hO c t) (bg m hO c t) (bu m hO c t) (bd m hO c t) xs0 xs1)
      = both m hO c t.val t.isLt := by
  have h1 : cond0_1 (grid0.coords t) 1#32 := (cond1_iff _ _).2 rfl
  unfold nextA nextX
  rw [if_pos h1]
  by_cases h0 : t.val % 11 = 0
  · have hc : cond0_0 (grid0.coords t) 1#32 := (cond0_iff _ _).2 ⟨rfl, (coords_chunk t).trans h0⟩
    simp only [if_pos hc]
    rw [both_first m hO c t h0]
  · have hc : ¬cond0_0 (grid0.coords t) 1#32 := fun h => h0 ((coords_chunk t).symm.trans ((cond0_iff _ _).1 h).2)
    simp only [if_neg hc]
    obtain ⟨n, hn⟩ := t
    cases n with
    | zero => exact absurd rfl h0
    | succ k =>
      have hk := hI k (Nat.lt_of_succ_lt hn) rfl ((vAt_succ m k _ h0).symm.trans hv)
      have e0 := congrArg Prod.fst hk
      have e1 := congrArg Prod.snd hk
      simp only at e0 e1
      rw [both_next m hO c k hn h0, ← e0, ← e1]

theorem inv_step (hI : Inv m hO c t.val xs0 xs1) :
    Inv m hO c (t.val + 1)
      (nextX (grid0.coords t) (vAt m t.val (lt_of_lt_of_eq t.isLt (N_eq m hO))) (bx m hO c t) xs0)
      (nextA (grid0.coords t) (vAt m t.val (lt_of_lt_of_eq t.isLt (N_eq m hO))) (bx m hO c t) (bg m hO c t) (bu m hO c t) (bd m hO c t) xs0 xs1) := by
  intro k hk e hv
  obtain rfl : t.val = k := by omega
  rw [hv]
  exact next_valid m hO c t xs0 xs1 hI hv

theorem out_step (hI : Inv m hO c t.val xs0 xs1) (h : t.val % 11 = 10) (x4 : Vec F S512x2048 .f32) :
    nextO (grid0.coords t) (vAt m t.val (lt_of_lt_of_eq t.isLt (N_eq m hO))) (bx m hO c t) (bg m hO c t) (bu m hO c t) (bd m hO c t) xs0 xs1 x4
      = k0_pay4 (vAt m t.val (lt_of_lt_of_eq t.isLt (N_eq m hO))) (both m hO c t.val t.isLt).2 := by
  unfold nextO
  rw [if_pos ((hcond0_2 t).2 h)]
  by_cases hv : vAt m t.val (lt_of_lt_of_eq t.isLt (N_eq m hO)) = 1#32
  · rw [hv, ← congrArg Prod.snd (next_valid m hO c t xs0 xs1 hI hv)]
  · exact pay4_invalid _ hv _ _

end Step

/-! ## The invariant and the proof data -/

/-- Before point `n`: the scratch at some contents of which `Inv` holds, the generator register, and the tables. -/
def PhiS (hO : Ok m) (c : Dev nD) (n : ℕ) : sProp 𝕄 :=
  iprop(iprop((∃ xs0 xs1, ⌜Inv m hO c n xs0 xs1⌝ ∗ owns (c : Thread nD τ) scM0_0 fullShare xs0 ∗ owns (c : Thread nD τ) scM0_1 fullShare xs1) ∗ (∃ r, prngReg c r)) ∗ Pipeline.ΦT pre0 (tbl m) c)

/-- The proof data: the inputs' blocks stay, and the output block is the accumulator's at a valid tile and zeros at
    another. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => k0_pay4 (vAt m t.val (lt_of_lt_of_eq t.isLt (N_eq m hO))) (both m hO c t.val t.isLt).2
  Φ t := PhiS m hO c t.val
  q _ := fullShare
  owed _ := 0

theorem A_eq (hO : Ok m) (c : Dev nD) (w : Fin (cfgM m hO).W) : (dats m hO 0 c).A w = V m c (Pipeline.arrRef spec0 w) := by
  dsimp only [dats]

theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem after3 (hO : Ok m) (c : Dev nD) (t : Fin (cfgM m hO).N) : (dats m hO 0 c).after 3 t = iblk m hO c 3 t := by dsimp only [dats]; try rfl
theorem after4 (hO : Ok m) (c : Dev nD) (t : Fin (cfgM m hO).N) :
    (dats m hO 0 c).after 4 t = k0_pay4 (vAt m t.val (lt_of_lt_of_eq t.isLt (N_eq m hO))) (both m hO c t.val t.isLt).2 := by dsimp only [dats]; try rfl

theorem before0 (hO : Ok m) (c : Dev nD) (t : Fin (cfgM m hO).N) (d) : (dats m hO 0 c).before 0 t d = iblk m hO c 0 t :=
  before0_0_of m hO (dats m hO 0 c) (A_eq m hO c 0) (after0 m hO c) t d
theorem before1 (hO : Ok m) (c : Dev nD) (t : Fin (cfgM m hO).N) (d) : (dats m hO 0 c).before 1 t d = iblk m hO c 1 t :=
  before0_1_of m hO (dats m hO 0 c) (A_eq m hO c 1) (after1 m hO c) t d
theorem before2 (hO : Ok m) (c : Dev nD) (t : Fin (cfgM m hO).N) (d) : (dats m hO 0 c).before 2 t d = iblk m hO c 2 t :=
  before0_2_of m hO (dats m hO 0 c) (A_eq m hO c 2) (after2 m hO c) t d
theorem before3 (hO : Ok m) (c : Dev nD) (t : Fin (cfgM m hO).N) (d) : (dats m hO 0 c).before 3 t d = iblk m hO c 3 t :=
  before0_3_of m hO (dats m hO 0 c) (A_eq m hO c 3) (after3 m hO c) t d

/-- What the body is called with at a point, and what it returns. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t)

set_option maxHeartbeats 4000000 in
/-- The body at any point: the inputs' memrefs hold their blocks, so one step applies, and the scratch it leaves
    satisfies what the next point is told of it. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0, before1, before2, before3]
  rw [show (dats m hO 0 c).owesAt () t.succ = (dats m hO 0 c).owesAt () t.castSucc from rfl]
  rw [show (dats m hO 0 c).Φ t.succ = PhiS m hO c (t.val + 1) from rfl,
    show (dats m hO 0 c).Φ t.castSucc = PhiS m hO c t.val from rfl]
  rw [show (dats m hO 0 c).leavesExact 0 t = owns (c : Thread nD τ) (ms0_0 m hO t) fullShare ((dats m hO 0 c).after 0 t) from by
    unfold Dat.leavesExact; rw [liveAt0_0 m hO t]; try rfl, after0]
  rw [show (dats m hO 0 c).leavesExact 1 t = owns (c : Thread nD τ) (ms0_1 m hO t) fullShare ((dats m hO 0 c).after 1 t) from by
    unfold Dat.leavesExact; rw [liveAt0_1 m hO t]; try rfl, after1]
  rw [show (dats m hO 0 c).leavesExact 2 t = owns (c : Thread nD τ) (ms0_2 m hO t) fullShare ((dats m hO 0 c).after 2 t) from by
    unfold Dat.leavesExact; rw [liveAt0_2 m hO t]; try rfl, after2]
  rw [show (dats m hO 0 c).leavesExact 3 t = owns (c : Thread nD τ) (ms0_3 m hO t) fullShare ((dats m hO 0 c).after 3 t) from by
    unfold Dat.leavesExact; rw [liveAt0_3 m hO t]; try rfl, after3]
  by_cases h : t.val % 11 = 10
  · rw [show (dats m hO 0 c).leavesExact 4 t = owns (c : Thread nD τ) (ms0_4 m hO t) fullShare ((dats m hO 0 c).after 4 t) from by
      unfold Dat.leavesExact; rw [liveAt0_4_G m hO t ((hcond0_2 t).mpr h)]; try rfl, after4]
    unfold PhiS
    rw [PhiT0_eq]
    iintro ⟨⟨⟨⟨%xs0, %xs1, %hI, HS0, HS1⟩, Hg⟩, ⟨HT0, HT1⟩⟩, Ho, ⟨%d0, H0⟩, ⟨%d1, H1⟩, ⟨%d2, H2⟩, ⟨%d3, H3⟩, ⟨%d4, H4⟩⟩
    iapply (step_to c (grid0.coords t) _ (hs0_0 m hO t) _ (hs0_1 m hO t) _ (hs0_2 m hO t) _ (hs0_3 m hO t) _ (hs0_4 m hO t) _ (Memref.isWhole_whole _) _ (Memref.isWhole_whole _) (bx m hO c t) (bg m hO c t) (bu m hO c t) (bd m hO c t) (tbl m 0) (tbl m 1) xs0 xs1 ((dats m hO 0 c).before 4 t d4) _ (vword_at m hO c t) _ (out_step m hO c t xs0 xs1 hI h _) _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HT0]; · iexact HT0
    isplitl [HT1]; · iexact HT1
    iintro ⟨H0, H1, H2, H3, H4, HS0, HS1, HT0, HT1⟩
    isplitl [HS0 HS1 Hg HT0 HT1]
    · isplitl [HS0 HS1 Hg]
      · isplitl [HS0 HS1]
        · iexists _; iexists _
          isplitr
          swap
          · isplitl [HS0]
            · iexact HS0
            iexact HS1
          ipureintro
          exact inv_step m hO c t xs0 xs1 hI
        iexact Hg
      isplitl [HT0]; · iexact HT0
      iexact HT1
    isplitl [Ho]; · iexact Ho
    isplitl [H0]; · iexact H0
    isplitl [H1]; · iexact H1
    isplitl [H2]; · iexact H2
    isplitl [H3]; · iexact H3
    iexact H4
  · have hc : ¬cond0_2 (grid0.coords t) := fun h' => h ((hcond0_2 t).mp h')
    rw [Dat.leavesExact_idle (dats m hO 0 c) 4 t (idleAt0_4_A m hO t hc) (noFlush0_4_A m hO t hc)]
    unfold PhiS
    rw [PhiT0_eq]
    iintro ⟨⟨⟨⟨%xs0, %xs1, %hI, HS0, HS1⟩, Hg⟩, ⟨HT0, HT1⟩⟩, Ho, ⟨%d0, H0⟩, ⟨%d1, H1⟩, ⟨%d2, H2⟩, ⟨%d3, H3⟩, ⟨%d4, H4⟩⟩
    iapply (step_to c (grid0.coords t) _ (hs0_0 m hO t) _ (hs0_1 m hO t) _ (hs0_2 m hO t) _ (hs0_3 m hO t) _ (hs0_4 m hO t) _ (Memref.isWhole_whole _) _ (Memref.isWhole_whole _) (bx m hO c t) (bg m hO c t) (bu m hO c t) (bd m hO c t) (tbl m 0) (tbl m 1) xs0 xs1 ((dats m hO 0 c).before 4 t d4) _ (vword_at m hO c t) ((dats m hO 0 c).before 4 t d4) (if_neg hc) _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HT0]; · iexact HT0
    isplitl [HT1]; · iexact HT1
    iintro ⟨H0, H1, H2, H3, H4, HS0, HS1, HT0, HT1⟩
    isplitl [HS0 HS1 Hg HT0 HT1]
    · isplitl [HS0 HS1 Hg]
      · isplitl [HS0 HS1]
        · iexists _; iexists _
          isplitr
          swap
          · isplitl [HS0]
            · iexact HS0
            iexact HS1
          ipureintro
          exact inv_step m hO c t xs0 xs1 hI
        iexact Hg
      isplitl [HT0]; · iexact HT0
      iexact HT1
    isplitl [Ho]; · iexact Ho
    isplitl [H0]; · iexact H0
    isplitl [H1]; · iexact H1
    isplitl [H2]; · iexact H2
    isplitl [H3]; · iexact H3
    iexists _; iexact H4

theorem body_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem obligation (hO : Ok m) (c : Dev nD) : BodyObligation (dats (F := F) m hO 0 c) (defs₀ (F := F)) Variants.none () Set.univ := fun t => by
  rw [bigSep_W0, bigSep_W0, body_row m hO]
  exact triple_restated (sound_body m hO c t) rfl .rfl fun _ => .rfl

theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 from rfl, PhiA0_eq]
  unfold PhiS
  iintro ⟨⟨⟨⟨%d0, HS0⟩, ⟨%d1, HS1⟩⟩, Hg⟩, HT⟩
  isplitl [HS0 HS1 Hg]
  · isplitl [HS0 HS1]
    · iexists d0; iexists d1
      isplitr
      · ipureintro
        intro k hk e
        exact absurd e (Nat.succ_ne_zero k).symm
      isplitl [HS0]
      · iexact HS0
      iexact HS1
    iexact Hg
  iexact HT

theorem hout (hO : Ok m) (c : Dev nD) : (dats m hO 0 c).Φ (Fin.last (cfgM m hO).N) ⊢ Pipeline.ΦA spec0 c := by
  rw [show (dats m hO 0 c).Φ (Fin.last (cfgM m hO).N) = PhiS m hO c (cfgM m hO).N from rfl, PhiA0_eq]
  unfold PhiS
  iintro ⟨⟨⟨%xs0, %xs1, -, HS0, HS1⟩, Hg⟩, -⟩
  isplitl [HS0 HS1]
  · isplitl [HS0]
    · iexists _; iexact HS0
    iexists _; iexact HS1
  iexact Hg

set_option backward.isDefEq.respectTransparency.types false in
/-- The run: every array of the pipeline ends as the proof data says, every other buffer as it was, every counter at
    zero. -/
theorem run_main (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- The frame at any values: the arguments end as they were and every counter at zero. -/
theorem frame_any (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ hO (dats m hO) (A_eq m hO) ((θ_run defs _ _).mono (fun _ h => h.1) (run_main m ρ hO)))
    ((θ_run defs _ _).mono (fun _ h => h.2) (run_main m ρ hO))

end Cert.KernelIdeal.Grouped

end
-- ==== Proof.Grouped.Sums.lean ====
module

public import Idealize.ShloMosaic.Lib.Pointwise

@[expose] public section

noncomputable section

/-! The mathematics of a gated feed-forward layer at one row and one output column, over the extended reals, and the
sum over the hidden columns cut into chunks. -/

namespace Cert.Gated

open Idealize.ShloMosaic

/-- The gated activation of a hidden column: the gate's value times its logistic, times the up projection's. -/
def act (g u : EReal) : EReal := g * Ideal.div 1 (1 + Ideal.exp (-g)) * u

/-- One hidden column's contribution: its activation from the row's two products, times the down weight. -/
def term {K : ℕ} (X G U : Fin K → EReal) (D : EReal) : EReal := act (∑ k, X k * G k) (∑ k, X k * U k) * D

/-- The layer at a row and an output column: the contributions of all hidden columns. -/
def row {K N : ℕ} (X : Fin K → EReal) (G U : Fin K → Fin N → EReal) (D : Fin N → EReal) : EReal :=
  ∑ f, term X (fun k => G k f) (fun k => U k f) (D f)

/-- A contribution by the hidden column's number, zero past the last. -/
def termN {K N : ℕ} (X : Fin K → EReal) (G U : Fin K → Fin N → EReal) (D : Fin N → EReal) (n : ℕ) : EReal :=
  if h : n < N then term X (fun k => G k ⟨n, h⟩) (fun k => U k ⟨n, h⟩) (D ⟨n, h⟩) else 0

theorem row_eq {K N : ℕ} (X : Fin K → EReal) (G U : Fin K → Fin N → EReal) (D : Fin N → EReal) :
    row X G U D = ∑ n ∈ Finset.range N, termN X G U D n := by
  rw [Finset.sum_range]
  exact Finset.sum_congr rfl fun f _ => by unfold termN; rw [dif_pos f.isLt]

/-- The columns below `b * (j + 1)` are those below `b * j` and one more chunk of `b`. -/
theorem chunk_sum (g : ℕ → EReal) (b j : ℕ) :
    ∑ n ∈ Finset.range (b * (j + 1)), g n = ∑ n ∈ Finset.range (b * j), g n + ∑ x : Fin b, g (b * j + x.val) := by
  rw [Nat.mul_succ, Finset.sum_range_add, Finset.sum_range (fun x => g (b * j + x))]

/-- A sum over experts in which one alone is chosen is that expert's summand. -/
theorem onehot {n : ℕ} (e : Fin n) (p : Fin n → EReal) (y : Fin n → EReal) (h1 : p e = 1) (h0 : ∀ i, i ≠ e → p i = 0) :
    ∑ i, p i * y i = y e := by
  rw [Finset.sum_eq_single e (fun i _ hi => by rw [h0 i hi, zero_mul]) (fun h => absurd (Finset.mem_univ e) h), h1, one_mul]

/-- and none chosen leaves zero. -/
theorem nothot {n : ℕ} (p : Fin n → EReal) (y : Fin n → EReal) (h0 : ∀ i, p i = 0) : ∑ i, p i * y i = 0 :=
  Finset.sum_eq_zero fun i _ => by rw [h0 i, zero_mul]

end Cert.Gated

end
-- ==== Proof.Grouped.Block.lean ====
module

public import proofs.«01_k».proof.Proof.Grouped.Body
public import proofs.«01_k».proof.Proof.Grouped.Sums

@[expose] public section

set_option maxRecDepth 16384

noncomputable section

namespace Cert.KernelIdeal.Grouped

open Cert.KernelIdeal.Gen Cert.Gated
open Idealize.ShloMosaic Idealize.ShloMosaic.TcCoe Idealize.SL.Sem

/-! ## The payloads at an index -/

theorem pay1_at (j) : k0_pay1 (F := Ideal) j = 0 := by pointwise [k0_pay1]

theorem pay2_eq (x : Vec Ideal S512x2048 .f32) : k0_pay2 (F := Ideal) x = x := by
  funext j
  pointwise [k0_pay2]

theorem pay3_at (xb : Vec Ideal S512x2048 .bf16) (wg wu : Vec Ideal S1x2048x512 .bf16) (acc : Vec Ideal S512x2048 .f32) (wd : Vec Ideal S1x512x2048 .bf16) (r : Fin 512) (d : Fin 2048) :
    k0_pay3 (F := Ideal) xb wg wu acc wd (ix2 r d)
      = acc (ix2 r d) + ∑ x : Fin 512, term (fun k : Fin 2048 => xb (ix2 r k)) (fun k => wg (ix3 0 k x)) (fun k => wu (ix3 0 k x)) (wd (ix3 0 x d)) := by
  pointwise [k0_pay3]
  simp only [zero_sub]
  rfl

theorem pay4_valid (x : Vec Ideal S512x2048 .f32) : k0_pay4 (F := Ideal) 1#32 x = x := by
  show Scalar.select (Scalar.cmpi .eq 1#32 1#32) x _ = x
  exact if_pos (by decide)

theorem pay4_zero (v : BitVec 32) (h : ¬v = 1#32) (x : Vec Ideal S512x2048 .f32) (j) : k0_pay4 (F := Ideal) v x j = 0 := by
  rw [pay4_invalid v h x (k0_pay1 (F := Ideal))]
  have e : k0_pay4 (F := Ideal) v (k0_pay1 (F := Ideal)) = broadcast S512x2048 (Scalar.ofBits (F := Ideal) .f32 0x00000000#32) := by
    show Scalar.select (Scalar.cmpi .eq v 1#32) (k0_pay1 (F := Ideal)) _ = _
    rw [cmpi_ne v h]
    exact if_neg (by decide)
  rw [e]
  pointwise

/-! ## The blocks at an index -/

variable (m : (ℓ : Loc nD τ sig) → Buf (Elt Ideal) ℓ)

/-- The arguments at their types. -/
def aX (c : Dev nD) : FVec Ideal S36864x2048 .f32 := m ((c : Thread nD τ).loc main_arg2)
def aG (c : Dev nD) : FVec Ideal S8x2048x5632 .bf16 := m ((c : Thread nD τ).loc main_arg3)
def aU (c : Dev nD) : FVec Ideal S8x2048x5632 .bf16 := m ((c : Thread nD τ).loc main_arg4)
def aD (c : Dev nD) : FVec Ideal S8x5632x2048 .bf16 := m ((c : Thread nD τ).loc main_arg5)

variable (hO : Ok m) (c : Dev nD) (t : Fin (cfgM m hO).N)

/-- The map of the rows names the tile. -/
theorem row_tile (i : grid0.Coords) : (BitVec.ofNat 32 (i 0).val).toNat = (i 0).val := by
  have : (i 0).val < 72 := (fst i).isLt
  rw [BitVec.toNat_ofNat]; omega

theorem bx_at (r : Fin 512) (k : Fin 2048) (R : Fin 36864) (hR : R.val = 512 * (t.val / 11) + r.val) :
    bx m hO c t (ix2 r k) = aX m c (ix2 R k) := by
  refine congrArg (aX m c) (funext fun (a : Fin 2) => Fin.ext ?_)
  have e := coords_tile t
  match a with
  | 0 => show cc0_transform_0 (grid0.coords t) 0 * 512 + 1 * r.val = R.val
         rw [show cc0_transform_0 (grid0.coords t) 0 = (grid0.coords t 0).val from row_tile _, e]; omega
  | 1 => show 0 * 2048 + 1 * k.val = k.val
         omega

variable (hv : vAt m t.val (lt_of_lt_of_eq t.isLt (N_eq m hO)) = 1#32) (e : Fin 8)
  (he : (teAt (tbl m) (t.val / 11) (tile_lt (lt_of_lt_of_eq t.isLt (N_eq m hO)))).toNat = e.val)

include hv he in
/-- At a point of a valid tile the three maps of the weights name the tile's expert and the point's chunk. -/
theorem maps : (∀ h n, cc0_transform_1 h n (tbl m) (grid0.coords t) = ![e.val, 0, t.val % 11])
    ∧ (∀ h n, cc0_transform_2 h n (tbl m) (grid0.coords t) = ![e.val, 0, t.val % 11])
    ∧ (∀ h n, cc0_transform_3 h n (tbl m) (grid0.coords t) = ![e.val, t.val % 11, 0]) := by
  have h0 : (fst (grid0.coords t)).val = t.val / 11 := coords_tile t
  have h1 : (snd (grid0.coords t)).val = t.val % 11 := coords_chunk t
  have a0 : (teAt (tbl m) (fst (grid0.coords t)).val (fst (grid0.coords t)).isLt).toNat = e.val := by
    rw [← he]; congr 2
  have a1 : chunk (tvAt (tbl m) (fst (grid0.coords t)).val (fst (grid0.coords t)).isLt) (snd (grid0.coords t)).val = t.val % 11 := by
    rw [show tvAt (tbl m) (fst (grid0.coords t)).val (fst (grid0.coords t)).isLt = 1#32 from by rw [← hv]; unfold vAt; congr 1]
    unfold chunk; rw [if_pos rfl, h1]
  exact ⟨fun h n => by rw [tr1_eq, a0, a1], fun h n => by rw [tr2_eq, a0, a1], fun h n => by rw [tr3_eq, a0, a1]⟩

include hv he in
theorem bg_at (k : Fin 2048) (x : Fin 512) (f : Fin 5632) (hf : f.val = 512 * (t.val % 11) + x.val) :
    bg m hO c t (ix3 0 k x) = aG m c (ix3 e k f) := by
  refine congrArg (aG m c) (funext fun (a : Fin 3) => Fin.ext ?_)
  have q := (maps m hO t hv e he).1 k0_off1_inb numel1_S1
  match a with
  | 0 => show cc0_transform_1 k0_off1_inb numel1_S1 (tbl m) (grid0.coords t) 0 * 1 + 1 * 0 = e.val
         rw [q]; show e.val * 1 + 1 * 0 = e.val; omega
  | 1 => show cc0_transform_1 k0_off1_inb numel1_S1 (tbl m) (grid0.coords t) 1 * 2048 + 1 * k.val = k.val
         rw [q]; show 0 * 2048 + 1 * k.val = k.val; omega
  | 2 => show cc0_transform_1 k0_off1_inb numel1_S1 (tbl m) (grid0.coords t) 2 * 512 + 1 * x.val = f.val
         rw [q]; show (t.val % 11) * 512 + 1 * x.val = f.val; omega

include hv he in
theorem bu_at (k : Fin 2048) (x : Fin 512) (f : Fin 5632) (hf : f.val = 512 * (t.val % 11) + x.val) :
    bu m hO c t (ix3 0 k x) = aU m c (ix3 e k f) := by
  refine congrArg (aU m c) (funext fun (a : Fin 3) => Fin.ext ?_)
  have q := (maps m hO t hv e he).2.1 k0_off1_inb numel1_S1
  match a with
  | 0 => show cc0_transform_2 k0_off1_inb numel1_S1 (tbl m) (grid0.coords t) 0 * 1 + 1 * 0 = e.val
         rw [q]; show e.val * 1 + 1 * 0 = e.val; omega
  | 1 => show cc0_transform_2 k0_off1_inb numel1_S1 (tbl m) (grid0.coords t) 1 * 2048 + 1 * k.val = k.val
         rw [q]; show 0 * 2048 + 1 * k.val = k.val; omega
  | 2 => show cc0_transform_2 k0_off1_inb numel1_S1 (tbl m) (grid0.coords t) 2 * 512 + 1 * x.val = f.val
         rw [q]; show (t.val % 11) * 512 + 1 * x.val = f.val; omega

include hv he in
theorem bd_at (x : Fin 512) (d : Fin 2048) (f : Fin 5632) (hf : f.val = 512 * (t.val % 11) + x.val) :
    bd m hO c t (ix3 0 x d) = aD m c (ix3 e f d) := by
  refine congrArg (aD m c) (funext fun (a : Fin 3) => Fin.ext ?_)
  have q := (maps m hO t hv e he).2.2 k0_off1_inb numel1_S1
  match a with
  | 0 => show cc0_transform_3 k0_off1_inb numel1_S1 (tbl m) (grid0.coords t) 0 * 1 + 1 * 0 = e.val
         rw [q]; show e.val * 1 + 1 * 0 = e.val; omega
  | 1 => show cc0_transform_3 k0_off1_inb numel1_S1 (tbl m) (grid0.coords t) 1 * 512 + 1 * x.val = f.val
         rw [q]; show (t.val % 11) * 512 + 1 * x.val = f.val; omega
  | 2 => show cc0_transform_3 k0_off1_inb numel1_S1 (tbl m) (grid0.coords t) 2 * 2048 + 1 * d.val = d.val
         rw [q]; show 0 * 2048 + 1 * d.val = d.val; omega

/-! ## A valid tile's accumulator -/

/-- A hidden column's contribution to the output at row `R` and column `d`, with expert `e`'s weights. -/
def T (c : Dev nD) (e : Fin 8) (R : Fin 36864) (d : Fin 2048) : ℕ → EReal :=
  termN (fun k : Fin 2048 => aX m c (ix2 R k)) (fun k (f : Fin 5632) => aG m c (ix3 e k f)) (fun k f => aU m c (ix3 e k f)) (fun f => aD m c (ix3 e f d))

include hv he in
/-- What a point adds to the accumulator: its chunk's contributions. -/
theorem chunk_at (xb : Vec Ideal S512x2048 .bf16) (acc : Vec Ideal S512x2048 .f32) (r : Fin 512) (d : Fin 2048) (R : Fin 36864)
    (hx : ∀ k : Fin 2048, xb (ix2 r k) = aX m c (ix2 R k)) :
    k0_pay3 (F := Ideal) xb (bg m hO c t) (bu m hO c t) acc (bd m hO c t) (ix2 r d)
      = acc (ix2 r d) + ∑ x : Fin 512, T m c e R d (512 * (t.val % 11) + x.val) := by
  rw [pay3_at]
  congr 1
  refine Finset.sum_congr rfl fun x _ => ?_
  have hf : 512 * (t.val % 11) + x.val < 5632 := by have := x.isLt; omega
  unfold T termN
  rw [dif_pos hf]
  simp only [hx, bg_at m hO c t hv e he _ x ⟨_, hf⟩ rfl, bu_at m hO c t hv e he _ x ⟨_, hf⟩ rfl, bd_at m hO c t hv e he x d ⟨_, hf⟩ rfl]

section Tile
variable (c : Dev nD) (n : ℕ) (hn : n < 72) (hvn : tvAt (tbl m) n hn = 1#32) (e : Fin 8) (hen : (teAt (tbl m) n hn).toNat = e.val)
variable (r : Fin 512) (d : Fin 2048) (R : Fin 36864) (hR : R.val = 512 * n + r.val)

include hvn in
theorem v_tile (j : ℕ) (hj : j < 11) (h : 11 * n + j < 792) : vAt m (11 * n + j) h = 1#32 := by
  rw [← hvn]; unfold vAt; congr 1; omega

include hen in
theorem e_tile (j : ℕ) (hj : j < 11) (h : (11 * n + j) / 11 < 72) : (teAt (tbl m) ((11 * n + j) / 11) h).toNat = e.val := by
  rw [← hen]; congr 2; omega

include hvn hen hR in
/-- After chunk `j` of a valid tile the rounded rows are the tile's and the accumulator the sum of the contributions
    of the first `j + 1` chunks. -/
theorem acc_at (j : ℕ) (hj : j < 11) (h : 11 * n + j < (cfgM m hO).N) :
    (∀ k : Fin 2048, (both m hO c (11 * n + j) h).1 (ix2 r k) = aX m c (ix2 R k))
      ∧ (both m hO c (11 * n + j) h).2 (ix2 r d) = ∑ x ∈ Finset.range (512 * (j + 1)), T m c e R d x := by
  induction j with
  | zero =>
    have h0 : (11 * n + 0) % 11 = 0 := by omega
    have q := both_first m hO c ⟨11 * n + 0, h⟩ h0
    simp only at q
    have hx : ∀ k : Fin 2048, k0_pay2 (F := Ideal) (bx m hO c ⟨11 * n + 0, h⟩) (ix2 r k) = aX m c (ix2 R k) := fun k => by
      rw [pay2_eq]
      exact bx_at m hO c _ r k R (by show R.val = 512 * ((11 * n + 0) / 11) + r.val; rw [hR]; congr 2; omega)
    rw [q]
    refine ⟨hx, ?_⟩
    show k0_pay3 (F := Ideal) _ _ _ _ _ (ix2 r d) = _
    rw [chunk_at m hO c ⟨11 * n + 0, h⟩ (v_tile m n hn hvn 0 hj _) e (e_tile m n hn e hen 0 hj _) _ _ r d R hx, pay1_at, chunk_sum]
    simp only [h0]
    simp
  | succ j ih =>
    obtain ⟨hx, ha⟩ := ih (by omega) (by omega)
    have h0 : (11 * n + j + 1) % 11 = j + 1 := by omega
    have q := both_next m hO c (11 * n + j) h (by omega)
    rw [show both m hO c (11 * n + (j + 1)) h = both m hO c (11 * n + j + 1) h from rfl, q]
    refine ⟨hx, ?_⟩
    show k0_pay3 (F := Ideal) _ _ _ _ _ (ix2 r d) = _
    rw [chunk_at m hO c ⟨11 * n + j + 1, h⟩ (v_tile m n hn hvn (j + 1) hj _) e (e_tile m n hn e hen (j + 1) hj _) _ _ r d R hx, chunk_sum, ha]
    simp only [h0]

include hvn hen hR in
/-- At a valid tile's last chunk the accumulator is the whole layer's value with the tile's expert. -/
theorem tile_at (h : 11 * n + 10 < (cfgM m hO).N) :
    (both m hO c (11 * n + 10) h).2 (ix2 r d)
      = row (fun k : Fin 2048 => aX m c (ix2 R k)) (fun k (f : Fin 5632) => aG m c (ix3 e k f)) (fun k f => aU m c (ix3 e k f)) (fun f => aD m c (ix3 e f d)) := by
  rw [row_eq]
  exact (acc_at m hO c n hn hvn e hen r d R hR 10 (by omega) h).2

end Tile

end Cert.KernelIdeal.Grouped

end
-- ==== Proof.Grouped.Value.lean ====
module

public import proofs.«01_k».proof.Proof.Grouped.Block
public import Idealize.ShloMosaic.Lib.Pipeline.Value

@[expose] public section

set_option maxRecDepth 16384

noncomputable section

namespace Cert.KernelIdeal.Grouped

open Cert.KernelIdeal.Gen Cert.Gated
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The expert of a tile, as a number below eight. -/
def ex (w : BitVec 32) : Fin 8 := ⟨w.toNat % 8, Nat.mod_lt _ (by omega)⟩

/-- The result array: at a row of a valid tile the layer with the tile's expert, at another row zero. -/
def out (hO : Ok m) (c : Dev nD) : FVec Ideal S36864x2048 .f32 := fun i =>
  if tvAt (tbl m) ((i 0).val / 512) (by have : (i 0).val < 36864 := (i 0).isLt; omega) = 1#32 then
    row (fun k : Fin 2048 => aX m c (ix2 (i 0) k))
      (fun k (f : Fin 5632) => aG m c (ix3 (ex (teAt (tbl m) ((i 0).val / 512) (by have : (i 0).val < 36864 := (i 0).isLt; omega))) k f))
      (fun k f => aU m c (ix3 (ex (teAt (tbl m) ((i 0).val / 512) (by have : (i 0).val < 36864 := (i 0).isLt; omega))) k f))
      (fun f => aD m c (ix3 (ex (teAt (tbl m) ((i 0).val / 512) (by have : (i 0).val < 36864 := (i 0).isLt; omega))) f (i 1)))
  else 0

/-- The word and the expert at a row's tile, the tile named. -/
theorem out_at (hO : Ok m) (c : Dev nD) (r : Fin 36864) (d : Fin 2048) (n : ℕ) (hn : n < 72) (h : r.val / 512 = n) :
    out m hO c (ix2 r d) = if tvAt (tbl m) n hn = 1#32 then
      row (fun k : Fin 2048 => aX m c (ix2 r k)) (fun k (f : Fin 5632) => aG m c (ix3 (ex (teAt (tbl m) n hn)) k f))
        (fun k f => aU m c (ix3 (ex (teAt (tbl m) n hn)) k f)) (fun f => aD m c (ix3 (ex (teAt (tbl m) n hn)) f d))
      else 0 := by
  subst h; rfl

variable (hlt : ∀ n hn, (teAt (tbl m) n hn).toNat < 8)

/-- Where an index of a tile's output block lies in the result array. -/
theorem emb4 (hO : Ok m) (t : Fin (cfgM m hO).N) (r : Fin 512) (d : Fin 2048) (R : Fin 36864) (hR : R.val = 512 * (t.val / 11) + r.val)
    (c : Dev nD) (G : FVec Ideal S36864x2048 .f32) :
    (((cfgM m hO).win 4).blk t).view.read (Elt Ideal) G (ix2 r d) = G (ix2 R d) := by
  refine congrArg G (funext fun (a : Fin 2) => Fin.ext ?_)
  have e := coords_tile t
  match a with
  | 0 => show cc0_transform_4 (grid0.coords t) 0 * 512 + 1 * r.val = R.val
         rw [show cc0_transform_4 (grid0.coords t) 0 = (grid0.coords t 0).val from row_tile _, e]; omega
  | 1 => show 0 * 2048 + 1 * d.val = d.val
         omega

include hlt in
/-- What a tile's last chunk writes back is the tile's rows of `out`. -/
theorem flushed_eq (hO : Ok m) (c : Dev nD) (t : Fin (cfgM m hO).N) (hf : ((cfgM m hO).win 4).flush t = true) :
    (dats m hO 0 c).flushed 4 t = (((cfgM m hO).win 4).blk t).view.read (Elt Ideal) (out m hO c) := by
  have hN : t.val < 792 := lt_of_lt_of_eq t.isLt (N_eq m hO)
  have h10 : t.val % 11 = 10 := by
    exact (flush0_4 (adm m hO) t).1 hf
  show (dats m hO 0 c).after 4 t = _
  rw [after4]
  funext (j : S512x2048.Idx)
  obtain ⟨r, d, rfl⟩ : ∃ r d, j = ix2 r d := ⟨j 0, j 1, by idx_vars j⟩
  obtain ⟨R, hR⟩ : ∃ R : Fin 36864, R.val = 512 * (t.val / 11) + r.val := ⟨⟨512 * (t.val / 11) + r.val, by have := r.isLt; omega⟩, rfl⟩
  rw [emb4 m hO t r d R hR c, out_at m hO c R d (t.val / 11) (tile_lt hN) (by have := r.isLt; omega)]
  by_cases hv : vAt m t.val hN = 1#32
  · rw [hv, pay4_valid, if_pos (show tvAt (tbl m) (t.val / 11) (tile_lt hN) = 1#32 from hv)]
    have ht : 11 * (t.val / 11) + 10 < (cfgM m hO).N := lt_of_lt_of_eq (by omega) (N_eq m hO).symm
    have e : (both m hO c t.val t.isLt) = both m hO c (11 * (t.val / 11) + 10) ht := by congr 1; omega
    rw [e]
    exact tile_at m hO c (t.val / 11) (tile_lt hN) hv (ex (teAt (tbl m) (t.val / 11) (tile_lt hN))) (Nat.mod_eq_of_lt (hlt _ _)).symm r d R hR ht
  · rw [pay4_zero _ hv, if_neg (show ¬tvAt (tbl m) (t.val / 11) (tile_lt hN) = 1#32 from hv)]

/-- Every index of the result lies in the block some tile's last chunk writes back. -/
theorem cover (hO : Ok m) (i : S36864x2048.Idx) :
    ∃ t : Fin (cfgM m hO).N, ((cfgM m hO).win 4).flush t = true ∧ i ∈ (((cfgM m hO).win 4).blk t).view.set := by
  have h0 : (i 0).val < 36864 := (i 0).isLt
  have h1 : (i 1).val < 2048 := (i 1).isLt
  have ht : 11 * ((i 0).val / 512) + 10 < (cfgM m hO).N := by rw [N_eq]; omega
  refine ⟨⟨11 * ((i 0).val / 512) + 10, ht⟩, ?_, ?_⟩
  · exact (flush0_4 (adm m hO) _).2 (by show (11 * ((i 0).val / 512) + 10) % 11 = 10; omega)
  · show i ∈ ((View.whole main_v0).slice (show Rect S36864x2048 from ((cfgM m hO).win 4).rect ⟨_, ht⟩)).set
    rw [View.set_slice_whole]
    refine Rect.mem_set_unit.2 ?_
    intro (a : Fin 2)
    have e : (grid0.coords ⟨11 * ((i 0).val / 512) + 10, ht⟩ 0).val = (11 * ((i 0).val / 512) + 10) / 11 := coords_tile (⟨11 * ((i 0).val / 512) + 10, ht⟩ : Fin grid0.N)
    match a with
    | 0 => show cc0_transform_4 _ 0 * 512 ≤ (i 0).val ∧ (i 0).val < cc0_transform_4 _ 0 * 512 + 512
           rw [show cc0_transform_4 _ 0 = (grid0.coords ⟨11 * ((i 0).val / 512) + 10, ht⟩ 0).val from row_tile _, e]
           omega
    | 1 => show 0 * 2048 ≤ (i 1).val ∧ (i 1).val < 0 * 2048 + 2048
           omega

include hlt in
/-- The result array after the run. -/
theorem final (hO : Ok m) (c : Dev nD) : (dats m hO 0 c).arrAt 4 (cfgM m hO).N = out m hO c :=
  Dat.arrAt_eq_of_cover (dats m hO 0 c) 4 (out m hO c) (fun t hf => flushed_eq m hlt hO c t hf) (cover m hO)

include hlt in
/-- The run read: the result at `out`, the arguments unchanged. -/
theorem run_value (hO : Ok m) : θ_run defs (onTc (τ := τ) (main (F := Ideal))) ⟨m, fun _ => 0, ρ⟩ (fun r => ∀ c : Dev nD,
      r.2.mem ((c.tc : Thread nD τ).loc main_v0) = out m hO c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).1 4).trans (final m hlt hO c), h.2.1 c⟩)
    (θ_run_and ((θ_run defs _ _).mono (fun _ h => h.1) (run_main m ρ hO)) (frame_any m ρ hO))

end Cert.KernelIdeal.Grouped

end
-- ==== Proof.Grouped.Ref.lean ====
module

public import proofs.«01_k».proof.Proof.Gen.ReferenceIdeal.Run
public import proofs.«01_k».proof.Proof.Grouped.Sums
public import Idealize.ShloMosaic.Lib.Pointwise

@[expose] public section

set_option maxRecDepth 16384

noncomputable section

namespace Cert.ReferenceIdeal.Grouped

open Cert.ReferenceIdeal.Gen Cert.Gated
open Idealize.ShloMosaic Idealize.ShloMosaic.TcCoe Idealize.SL.Sem

/-- The reference's result as a function of its arguments. -/
def refVal (te tv : IVec S72 32) (x : FVec Ideal S36864x2048 .f32) (wg wu : FVec Ideal S8x2048x5632 .bf16) (wd : FVec Ideal S8x5632x2048 .bf16) : FVec Ideal S36864x2048 .f32 :=
  Host.reduceAdd (mulf (broadcastInDim S8x36864x2048 ![0, 1, 2] bcast_S8x36864x1_S8x36864x2048_0_1_2 (broadcastInDim S8x36864x1 ![0, 1] bcast_S8x36864_S8x36864x1_0_1 (transpose S8x36864 [1, 0] (uitofp .f32 (andi (cmpi .eq (broadcastInDim S36864x8 ![0, 1] bcast_S36864x1_S36864x8_0_1 (broadcastInDim S36864x1 ![0] bcast_S36864_S36864x1_0 (shapeCast _ (broadcastInDim S72x512 ![0, 1] bcast_S72x1_S72x512_0_1 (broadcastInDim S72x1 ![0] bcast_S72_S72x1_0 te)) shapeCasts_S72x512_S36864))) (broadcastInDim S36864x8 ![0, 1] bcast_S1x8_S36864x8_0_1 (broadcastInDim S1x8 ![1] bcast_S8_S1x8_1 (iotaInDim S8 32 0)))) (broadcastInDim S36864x8 ![0, 1] bcast_S36864x1_S36864x8_0_1 (cmpi .eq (broadcastInDim S36864x1 ![0] bcast_S36864_S36864x1_0 (shapeCast _ (broadcastInDim S72x512 ![0, 1] bcast_S72x1_S72x512_0_1 (broadcastInDim S72x1 ![0] bcast_S72_S72x1_0 tv)) shapeCasts_S72x512_S36864)) (broadcastInDim S36864x1 ![] bcast_S_S36864x1 (constantI S_ 32 1#32)))))) transposes_S36864x8_S8x36864_1_0))) (Host.dotGeneral dot_S36864x8x5632_S8x5632x2048_S8x36864x2048_2_1_0_2_1_0 none (mulf (mulf (Host.dotGeneral dot_S36864x2048_S8x2048x5632_S36864x8x5632_1_1_0_02_n_n none x (extf .f32 wg bitsLt_bf16_f32)) (Host.divf (broadcastInDim S36864x8x5632 ![] bcast_S_S36864x8x5632 (constant S_ .f32 0x3F800000#32)) (addf (broadcastInDim S36864x8x5632 ![] bcast_S_S36864x8x5632 (constant S_ .f32 0x3F800000#32)) (Host.exp (Host.negf (Host.dotGeneral dot_S36864x2048_S8x2048x5632_S36864x8x5632_1_1_0_02_n_n none x (extf .f32 wg bitsLt_bf16_f32))))))) (Host.dotGeneral dot_S36864x2048_S8x2048x5632_S36864x8x5632_1_1_0_02_n_n none x (extf .f32 wu bitsLt_bf16_f32))) (extf .f32 wd bitsLt_bf16_f32))) (constant S_ .f32 0x00000000#32) reducesTo_S8x36864x2048_S36864x2048_d0 h_S_

/-- The weight with which an expert's output is taken at a tile: one for the tile's own expert, if the tile is valid. -/
def pick (a b : BitVec 32) (i : Fin 8) : EReal :=
  FloatOps.uitofp (F := Ideal) .f32 (IntOp.andi (IntOp.cmpi .eq a (BitVec.ofNat 32 i.val)) (IntOp.cmpi .eq b 1#32))

theorem pick_one (a b : BitVec 32) (i : Fin 8) (ha : a.toNat = i.val) (hb : b = 1#32) : pick a b i = 1 := by
  obtain rfl : a = BitVec.ofNat 32 i.val := by rw [← ha, BitVec.ofNat_toNat]; simp
  subst hb
  have e : IntOp.andi (IntOp.cmpi .eq (BitVec.ofNat 32 i.val) (BitVec.ofNat 32 i.val)) (IntOp.cmpi .eq (1#32) 1#32) = 1#1 := by
    simp [IntOp.cmpi, IntOp.andi]
  unfold pick
  rw [e]
  show (((1#1 : BitVec 1).toNat : ℝ) : EReal) = 1
  simp

theorem pick_zero (a b : BitVec 32) (i : Fin 8) (h : ¬(a.toNat = i.val ∧ b = 1#32)) : pick a b i = 0 := by
  have e : IntOp.andi (IntOp.cmpi .eq a (BitVec.ofNat 32 i.val)) (IntOp.cmpi .eq b 1#32) = 0#1 := by
    by_cases hb : b = 1#32
    · have ha : ¬a = BitVec.ofNat 32 i.val := fun q => h ⟨by rw [q, BitVec.toNat_ofNat]; have := i.isLt; omega, hb⟩
      have q : (a == BitVec.ofNat 32 i.val) = false := by simpa using ha
      show BitVec.ofBool (a == BitVec.ofNat 32 i.val) &&& BitVec.ofBool (b == 1#32) = 0#1
      rw [q]; simp
    · have q : (b == 1#32) = false := by simpa using hb
      show BitVec.ofBool (a == BitVec.ofNat 32 i.val) &&& BitVec.ofBool (b == 1#32) = 0#1
      rw [q]; simp
  unfold pick
  rw [e]
  show (((0#1 : BitVec 1).toNat : ℝ) : EReal) = 0
  simp

section
variable (te tv : IVec S72 32) (x : FVec Ideal S36864x2048 .f32) (wg wu : FVec Ideal S8x2048x5632 .bf16) (wd : FVec Ideal S8x5632x2048 .bf16)
  (r : Fin 36864) (d : Fin 2048) (n : Fin 72) (hn : r.val / 512 = n.val)

include hn in
/-- The reference at an index: every expert's value at the row, weighted. -/
theorem ref_at : refVal te tv x wg wu wd (ix2 r d)
      = ∑ i : Fin 8, pick (te (ix1 n)) (tv (ix1 n)) i
          * row (fun k : Fin 2048 => x (ix2 r k)) (fun k (f : Fin 5632) => wg (ix3 i k f)) (fun k f => wu (ix3 i k f)) (fun f => wd (ix3 i f d)) := by
  have hb : r.val / 512 < 72 := by omega
  have e : (⟨r.val / 512, hb⟩ : Fin 72) = n := Fin.ext hn
  subst e
  pointwise [refVal]
  rfl

include hn in
theorem ref_valid (e : Fin 8) (he : (te (ix1 n)).toNat = e.val) (hv : tv (ix1 n) = 1#32) :
    refVal te tv x wg wu wd (ix2 r d)
      = row (fun k : Fin 2048 => x (ix2 r k)) (fun k (f : Fin 5632) => wg (ix3 e k f)) (fun k f => wu (ix3 e k f)) (fun f => wd (ix3 e f d)) := by
  rw [ref_at te tv x wg wu wd r d n hn]
  exact onehot e _ _ (pick_one _ _ _ he hv) fun i hi => pick_zero _ _ _ fun q => hi (Fin.ext (q.1.symm.trans he))

include hn in
theorem ref_zero (hv : ¬tv (ix1 n) = 1#32) : refVal te tv x wg wu wd (ix2 r d) = 0 := by
  rw [ref_at te tv x wg wu wd r d n hn]
  exact nothot _ _ fun i => pick_zero _ _ _ fun q => hv q.2

end

end Cert.ReferenceIdeal.Grouped

end
-- ==== Proof.Grouped.Claims.lean ====
module

public import proofs.«01_k».proof.Defs
public import proofs.«01_k».proof.Proof.Gen.Kernel
public import proofs.«01_k».proof.Proof.Grouped.Value
public import proofs.«01_k».proof.Proof.Grouped.Ref
public import Idealize.ShloMosaic.Lib.Quiescent

@[expose] public section

set_option maxRecDepth 16384

noncomputable section

namespace Cert.Grouped

open Idealize.ShloMosaic Idealize.ShloMosaic.TcCoe Idealize.SL.Sem
open Cert.KernelIdeal Cert.KernelIdeal.Gen Cert.KernelIdeal.Grouped

/-- The precondition bounds every entry of the first table. -/
theorem te_bound {F : FTy → Type} [FloatOps F] (m : (ℓ : Loc nD τ sig) → Buf (Elt F) ℓ)
    (h : ∀ c : Dev nD, Cert.Pre_te_ok.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = (fun _ => 1#1))
    (n hn) : (teAt (tbl m) n hn).toNat < 8 :=
  te_lt _ _ _ _ _ _ (fun j => congrFun (h 0) j) (tidx n hn)

/-- The two programs' bodies are one term, label by label. -/
theorem bodies_eq : @Cert.Kernel.defs₀ Bits _ _ = @Cert.KernelIdeal.defs₀ Bits _ _ := by
  unfold Cert.Kernel.defs₀ Cert.KernelIdeal.defs₀
  refine congrArg Defs.onTc (funext fun (l : Fin 1) => ?_)
  match l with
  | 0 => rfl
theorem defs_eq : @Cert.Kernel.defs Bits _ _ = @Cert.KernelIdeal.defs Bits _ _ :=
  congrArg (Pipeline.defs (@Cert.Kernel.pcfgs Bits _ _)) bodies_eq

theorem kernel_frame : Cert.quiescent_Kernel := by
  intro m ρ h
  have q := frame_any (F := Bits) m ρ (ok_of_lt _ (te_bound (F := Bits) m h))
  rw [← defs_eq] at q
  exact q

theorem ideal_frame : Cert.quiescent_KernelIdeal := fun m ρ h =>
  frame_any (F := Ideal) m ρ (ok_of_lt _ (te_bound m h))

theorem reference_frame : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- The kernel's result is the reference's, index by index. -/
theorem value_at (m : (ℓ : Loc nD τ sig) → Buf (Elt Ideal) ℓ) (hlt : ∀ n hn, (teAt (tbl m) n hn).toNat < 8) (hO : Ok m) (c : Dev nD) :
    out m hO c = Cert.ReferenceIdeal.Grouped.refVal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  obtain rfl : c = 0 := Subsingleton.elim _ _
  funext (i : S36864x2048.Idx)
  obtain ⟨r, d, rfl⟩ : ∃ r d, i = ix2 r d := ⟨i 0, i 1, by idx_vars i⟩
  have hb : r.val / 512 < 72 := by have := r.isLt; omega
  have ei : tidx (r.val / 512) hb = ix1 (⟨r.val / 512, hb⟩ : Fin 72) := funext fun (a : Fin 1) => Fin.ext (by obtain rfl : a = 0 := Subsingleton.elim _ _; rfl)
  have e0 : teAt (tbl m) (r.val / 512) hb = (show S72.Idx → BitVec 32 from m (((0 : Dev nD).tc : Thread nD τ).loc main_arg0)) (ix1 ⟨r.val / 512, hb⟩) := by
    unfold teAt; rw [ei]; rfl
  have e1 : tvAt (tbl m) (r.val / 512) hb = (show S72.Idx → BitVec 32 from m (((0 : Dev nD).tc : Thread nD τ).loc main_arg1)) (ix1 ⟨r.val / 512, hb⟩) := by
    unfold tvAt; rw [ei]; rfl
  rw [out_at m hO 0 r d _ hb rfl]
  by_cases hv : tvAt (tbl m) (r.val / 512) hb = 1#32
  · rw [if_pos hv]
    exact (Cert.ReferenceIdeal.Grouped.ref_valid _ _ _ _ _ _ r d ⟨_, hb⟩ rfl (ex (teAt (tbl m) (r.val / 512) hb)) ((congrArg BitVec.toNat e0).symm.trans (Nat.mod_eq_of_lt (hlt _ hb)).symm) (e1.symm.trans hv)).symm
  · rw [if_neg hv]
    exact (Cert.ReferenceIdeal.Grouped.ref_zero _ _ _ _ _ _ r d ⟨_, hb⟩ rfl (fun q => hv (e1.trans q))).symm

/-- The reference's value at equal arguments. -/
theorem refVal_congr {te te' tv tv' : IVec Cert.ReferenceIdeal.S72 32} {x x' : FVec Ideal Cert.ReferenceIdeal.S36864x2048 .f32}
    {wg wg' wu wu' : FVec Ideal Cert.ReferenceIdeal.S8x2048x5632 .bf16} {wd wd' : FVec Ideal Cert.ReferenceIdeal.S8x5632x2048 .bf16}
    (h0 : te' = te) (h1 : tv' = tv) (h2 : x' = x) (h3 : wg' = wg) (h4 : wu' = wu) (h5 : wd' = wd) :
    Cert.ReferenceIdeal.Grouped.refVal te' tv' x' wg' wu' wd' = Cert.ReferenceIdeal.Grouped.refVal te tv x wg wu wd := by
  subst h0 h1 h2 h3 h4 h5; rfl

theorem value : Cert.algebraic_KernelIdeal_ReferenceIdeal := fun m g m' g' h hm =>
  have hlt := te_bound m h
  have hO := ok_of_lt _ hlt
  ⟨fun c => out m hO c, run_value m g hlt hO, (θ_run Cert.ReferenceIdeal.defs _ _).mono
    (fun _ q c => ⟨(q c).1.trans ((refVal_congr (hm c).1 (hm c).2.1 (hm c).2.2.1 (hm c).2.2.2.1 (hm c).2.2.2.2.1 (hm c).2.2.2.2.2).trans (value_at m hlt hO c).symm), (q c).2⟩)
    (Cert.ReferenceIdeal.Value.run (F := Ideal) m' g')⟩

end Cert.Grouped

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_te_ok
public import proofs.«01_k».proof.Proof.Gen.ReferenceIdeal.Run
public import proofs.«01_k».proof.Proof.Grouped.Claims

@[expose] public section

noncomputable section

namespace Cert.Proof

open Idealize.ShloMosaic Idealize.SL.Sem Cert.Kernel

/-- The claims: the two frames of the kernel, the reference's frame, that the ideal program is the kernel's own, and
    that the kernel's result is the reference's over the extended reals. -/
theorem claim : Cert.Claim := ⟨Cert.Kernel.Gen.facts, Cert.KernelIdeal.Gen.facts, Cert.ReferenceIdeal.Gen.facts, Cert.Pre_te_ok.Gen.facts,
  Cert.Grouped.kernel_frame, Cert.Grouped.ideal_frame, Cert.Grouped.reference_frame, trivial, Cert.Grouped.value⟩

end Cert.Proof

end
